-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x128 : Shape := ⟨2, ![1024, 128]⟩
abbrev S100000x128 : Shape := ⟨2, ![100000, 128]⟩
abbrev S_ : Shape := ⟨0, ![]⟩

class Facts : Prop where
  bcast_S_S1024x128 : S_.BroadcastsInDim S1024x128 (![] : Fin 0 → Fin S1024x128.rank)
  bcast_S_S100000x128 : S_.BroadcastsInDim S100000x128 (![] : Fin 0 → Fin S100000x128.rank)

variable [Facts]

def fn {F : FTy → Type} [FloatOps F] (main_arg0 : FVec F S1024x128 .f32) (main_arg1 : FVec F S100000x128 .f32) : IVec S1024x128 1 × IVec S100000x128 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_v3 : FVec F S100000x128 .f32 := Host.absf main_arg1
  let main_cst_0 : FVec F S_ .f32 := constant S_ .f32 0x7F800000#32
  let main_v4 : FVec F S100000x128 .f32 := broadcastInDim S100000x128 ![] bcast_S_S100000x128 main_cst_0
  let main_v5 : IVec S100000x128 1 := cmpf .olt main_v3 main_v4
  (main_v2, main_v5)
-- ==== Kernel.lean ====
abbrev S1024x128 : Shape := ⟨2, ![1024, 128]⟩
abbrev S100000x128 : Shape := ⟨2, ![100000, 128]⟩
abbrev S1024x1 : Shape := ⟨2, ![1024, 1]⟩
abbrev S25000x128 : Shape := ⟨2, ![25000, 128]⟩
abbrev S1024x129 : Shape := ⟨2, ![1024, 129]⟩
abbrev S25000 : Shape := ⟨1, ![25000]⟩
abbrev S25000x1 : Shape := ⟨2, ![25000, 1]⟩
abbrev S25000x129 : Shape := ⟨2, ![25000, 129]⟩
abbrev S1024x25000 : Shape := ⟨2, ![1024, 25000]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 4
  | .vmem => 6
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S1024x1, .f32⟩
  | .hbm, ⟨3, _⟩ => ⟨S1024, .f32⟩
  | .local _ .vmem, ⟨0, _⟩ => ⟨S1024x128, .f32⟩
  | .local _ .vmem, ⟨1, _⟩ => ⟨S25000x128, .f32⟩
  | .local _ .vmem, ⟨2, _⟩ => ⟨S25000x128, .f32⟩
  | .local _ .vmem, ⟨3, _⟩ => ⟨S1024x1, .f32⟩
  | .local _ .vmem, ⟨4, _⟩ => ⟨S1024x1, .f32⟩
  | .local _ .vmem, ⟨5, _⟩ => ⟨S1024x129, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v19 : BitVec 1 := Scalar.cmpi .eq arg0 c3_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S25000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1024x128 : Shape := ⟨2, ![1024, 128]⟩
abbrev S100000x128 : Shape := ⟨2, ![100000, 128]⟩
abbrev S_ : Shape := ⟨0, ![]⟩
abbrev S1024 : Shape := ⟨1, ![1024]⟩
abbrev S100000 : Shape := ⟨1, ![100000]⟩
abbrev S1024x1 : Shape := ⟨2, ![1024, 1]⟩
abbrev S1x100000 : Shape := ⟨2, ![1, 100000]⟩
abbrev S1024x100000 : Shape := ⟨2, ![1024, 100000]⟩
abbrev S128x100000 : Shape := ⟨2, ![128, 100000]⟩

abbrev nBuf : Space → Nat
  | .hbm => 35
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S1024x128, .f32⟩
  | .hbm, ⟨3, _⟩ => ⟨S_, .f32⟩
  | .hbm, ⟨4, _⟩ => ⟨S1024, .f32⟩
  | .hbm, ⟨5, _⟩ => ⟨S100000x128, .f32⟩
  | .hbm, ⟨6, _⟩ => ⟨S_, .f32⟩
  | .hbm, ⟨7, _⟩ => ⟨S100000, .f32⟩
  | .hbm, ⟨8, _⟩ => ⟨S1024x1, .f32⟩
  | .hbm, ⟨9, _⟩ => ⟨S1x100000, .f32⟩
  | .hbm, ⟨10, _⟩ => ⟨S1024x100000, .f32⟩
  | .hbm, ⟨11, _⟩ => ⟨S1024x100000, .f32⟩
  | .hbm, ⟨12, _⟩ => ⟨S1024x100000, .f32⟩
  | .hbm, ⟨13, _⟩ => ⟨S128x100000, .f32⟩
  | .hbm, ⟨14, _⟩ => ⟨S1024x100000, .f32⟩
  | .hbm, ⟨15, _⟩ => ⟨S_, .f32⟩
  | .hbm, ⟨16, _⟩ => ⟨S1024x100000, .f32⟩
  | .hbm, ⟨17, _⟩ => ⟨S1024x100000, .f32⟩
  | .hbm, ⟨18, _⟩ => ⟨S1024x100000, .f32⟩
  | .hbm, ⟨19, _⟩ => ⟨S_, .f32⟩
  | .hbm, ⟨20, _⟩ => ⟨S1024x100000, .f32⟩
  | .hbm, ⟨21, _⟩ => ⟨S1024x100000, .f32⟩
  | .hbm, ⟨22, _⟩ => ⟨S1024x100000, .f32⟩
  | .hbm, ⟨23, _⟩ => ⟨S_, .f32⟩
  | .hbm, ⟨24, _⟩ => ⟨S1024, .f32⟩
  | .hbm, ⟨25, _⟩ => ⟨S_, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1024, .f32⟩
  | .hbm, ⟨34, _⟩ => ⟨S1024, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.Nearest.lean ====
/- The arithmetic of the claim, over the extended reals and with no program in it: the score the kernel takes of a pair of rows,
   the distance the reference takes of it, the least distance of a row, and the rescaling of a vector of least distances to a
   range that begins at zero. -/
module

public import Idealize.ShloMosaic.PureOps
public import Idealize.ShloMosaic.PureOps.Ideal.Laws
public import Mathlib.Data.EReal.Operations
public import Mathlib.Order.CompleteLattice.Finset

@[expose] public section

noncomputable section

namespace Cert.Nearest

open Idealize.ShloMosaic

/-! ## The constants the programs write -/

/-- The word of +∞ is the top of the extended reals. -/
theorem ofBits_inf : Ideal.ofBits .f32 0x7F800000#32 = ⊤ := by
  simp [Ideal.ofBits, Ideal.ieee]

/-- The word of −∞ is the bottom of the extended reals. -/
theorem ofBits_neg_inf : Ideal.ofBits .f32 0xFF800000#32 = ⊥ := by
  simp [Ideal.ofBits, Ideal.ieee]

/-- The word of 2. -/
theorem ofBits_two : Ideal.ofBits .f32 0x40000000#32 = ((2 : ℝ) : EReal) := by
  simp [Ideal.ofBits, Ideal.ieee, -EReal.coe_mul]; norm_num

/-- The word of −2. -/
theorem ofBits_neg_two : Ideal.ofBits .f32 0xC0000000#32 = ((-2 : ℝ) : EReal) := by
  simp [Ideal.ofBits, Ideal.ieee, -EReal.coe_mul]; norm_num

/-- The word of 128. -/
theorem ofBits_128 : Ideal.ofBits .f32 0x43000000#32 = ((128 : ℝ) : EReal) := by
  simp [Ideal.ofBits, Ideal.ieee, -EReal.coe_mul]; norm_num

/-! ## Least and greatest elements of a finite family -/

/-- Folding `min` from +∞ over a finite type is the infimum. -/
theorem fold_min {ι : Type} [Fintype ι] (f : ι → EReal) :
    Finset.fold min (Ideal.ofBits .f32 0x7F800000#32) f Finset.univ = ⨅ x, f x := by
  rw [ofBits_inf]; exact Finset.inf_univ_eq_iInf f

/-- Folding `max` from −∞ over a finite type is the supremum. -/
theorem fold_max {ι : Type} [Fintype ι] (f : ι → EReal) :
    Finset.fold max (Ideal.ofBits .f32 0xFF800000#32) f Finset.univ = ⨆ x, f x := by
  rw [ofBits_neg_inf]; exact Finset.sup_univ_eq_iSup f

/-- An infimum over pairs whose second member has one value only is the infimum over the first. -/
theorem iInf_fst {n : ℕ} (f : Fin n → EReal) : (⨅ x : Fin n × Fin 1, f x.1) = ⨅ x, f x := by
  rw [iInf_prod]; simp

/-- The same for a supremum. -/
theorem iSup_fst {n : ℕ} (f : Fin n → EReal) : (⨆ x : Fin n × Fin 1, f x.1) = ⨆ x, f x := by
  rw [iSup_prod]; simp

/-! ## A pair of rows -/

/-- The square of a row's length. -/
def sqLen (a : Fin 128 → EReal) : EReal := ∑ k, a k * a k

/-- The kernel's score of a row `u` against a row `l`: the part of their squared distance that depends on `l`, less 128. -/
def score (u l : Fin 128 → EReal) : EReal :=
  ∑ k, u k * ((-2 : ℝ) : EReal) * l k + (sqLen l - ((128 : ℝ) : EReal))

/-- The square root of the greater of a number and zero. -/
def root (x : EReal) : EReal := Ideal.sqrt (max x 0)

/-- The distance of the kernel, from a score: the row's own square and the 128 are put back. -/
def fromScore (u : Fin 128 → EReal) (x : EReal) : EReal := root (x + (sqLen u + ((128 : ℝ) : EReal)))

/-- The distance of the reference: both squares less twice the inner product. -/
def dist (u l : Fin 128 → EReal) : EReal :=
  root (sqLen u + sqLen l - ((2 : ℝ) : EReal) * ∑ k, u k * l k)

/-- The root of +∞ is +∞. -/
theorem root_top : root ⊤ = ⊤ := by
  unfold root; rw [max_eq_left le_top]; rfl

/-- The square root of a real that is not negative. -/
theorem sqrt_coe {a : ℝ} (h : 0 ≤ a) : Ideal.sqrt (a : EReal) = ((Real.sqrt a : ℝ) : EReal) :=
  if_neg (not_lt.mpr h)

/-- The root of a real. -/
theorem root_coe (a : ℝ) : root (a : EReal) = ((Real.sqrt (max a 0) : ℝ) : EReal) := by
  unfold root
  rw [show max (a : EReal) 0 = ((max a 0 : ℝ) : EReal) from
    (EReal.coe_strictMono.monotone.map_max (a := a) (b := 0)).symm]
  exact sqrt_coe (le_max_right a 0)

/-- The root of −∞ is zero. -/
theorem root_bot : root ⊥ = 0 := by
  unfold root
  rw [max_eq_right bot_le, ← EReal.coe_zero, sqrt_coe le_rfl, Real.sqrt_zero]

/-- A root is never negative. -/
theorem root_nonneg (x : EReal) : 0 ≤ root x := by
  induction x with
  | bot => exact root_bot.ge
  | top => rw [root_top]; exact le_top
  | coe a => rw [root_coe]; exact EReal.coe_nonneg.mpr (Real.sqrt_nonneg _)

/-- The root is monotone. -/
theorem root_mono : Monotone root := by
  intro x y h
  induction x with
  | bot => rw [root_bot]; exact root_nonneg y
  | top => rw [top_le_iff.mp h]
  | coe a =>
    induction y with
    | bot => exact absurd (le_bot_iff.mp h) (EReal.coe_ne_bot a)
    | top => rw [root_top]; exact le_top
    | coe b =>
      rw [root_coe, root_coe, EReal.coe_le_coe_iff]
      exact Real.sqrt_le_sqrt (max_le_max_right 0 (EReal.coe_le_coe_iff.mp h))

/-- A row of reals, seen among the extended reals. -/
def lift (a : Fin 128 → ℝ) : Fin 128 → EReal := fun k => a k

/-- A sum of reals is the same sum among the extended reals. -/
theorem coe_sum {ι : Type} (s : Finset ι) (f : ι → ℝ) : ((∑ k ∈ s, f k : ℝ) : EReal) = ∑ k ∈ s, (f k : EReal) := by
  classical
  induction s using Finset.induction_on with
  | empty => simp
  | insert i s hi ih => rw [Finset.sum_insert hi, Finset.sum_insert hi, EReal.coe_add, ih]

/-- The square of a real row is a real. -/
theorem sqLen_lift (a : Fin 128 → ℝ) : sqLen (lift a) = ((∑ k, a k * a k : ℝ) : EReal) := by
  rw [coe_sum]; rfl

/-- On real rows the kernel's distance from the score of a pair is the reference's distance of it. -/
theorem fromScore_score (a b : Fin 128 → ℝ) : fromScore (lift a) (score (lift a) (lift b)) = dist (lift a) (lift b) := by
  have hs : (∑ k, lift a k * ((-2 : ℝ) : EReal) * lift b k) = ((∑ k, a k * (-2) * b k : ℝ) : EReal) := by
    rw [coe_sum]; rfl
  have hd : (∑ k, lift a k * lift b k) = ((∑ k, a k * b k : ℝ) : EReal) := by
    rw [coe_sum]; rfl
  have e : (∑ k, a k * (-2) * b k) = -2 * ∑ k, a k * b k := by
    rw [Finset.mul_sum]; exact Finset.sum_congr rfl fun k _ => by ring
  unfold fromScore score dist
  rw [hs, hd, sqLen_lift, sqLen_lift, e, ← EReal.coe_sub, ← EReal.coe_add, ← EReal.coe_add, ← EReal.coe_add, ← EReal.coe_add,
    ← EReal.coe_mul, ← EReal.coe_sub]
  congr 2
  ring

/-- On a real row the kernel's distance is monotone in the score. -/
theorem fromScore_mono (a : Fin 128 → ℝ) : Monotone (fromScore (lift a)) :=
  fun _ _ h => root_mono (add_le_add_left h _)

/-- The distance from the least of many scores is the least of the distances. -/
theorem fromScore_iInf {n : ℕ} (a : Fin 128 → ℝ) (f : Fin n → EReal) :
    fromScore (lift a) (⨅ j, f j) = ⨅ j, fromScore (lift a) (f j) := by
  have ht : fromScore (lift a) ⊤ = ⊤ := by
    unfold fromScore
    rw [sqLen_lift, ← EReal.coe_add, EReal.top_add_coe, root_top]
  have h := Finset.apply_inf_eq_inf_comp_of_linearOrder (s := Finset.univ) (f := f) _ (fromScore_mono a) ht
  rw [Finset.inf_univ_eq_iInf, Finset.inf_univ_eq_iInf] at h
  exact h

/-! ## The rescaling -/

/-- The rescaling both programs end with: every element less the least one, over the greatest such difference and a small
    constant. -/
def rescale (d : Fin 1024 → EReal) (r : Fin 1024) : EReal :=
  Ideal.div (d r - ⨅ k, d k) ((⨆ k, d k - ⨅ k', d k') + Ideal.ofBits .f32 0x219392EF#32)

end Cert.Nearest

end
-- ==== Proof.Reference.lean ====
/- What the reference computes, read at an index: the least distance of each row of the first array to the rows of the second,
   and the rescaling of the vector of them. -/
module

public import proofs.«01_k».proof.Defs
public import proofs.«01_k».proof.Proof.Nearest
public import proofs.«01_k».proof.Proof.Gen.ReferenceIdeal.Run
public import proofs.«01_k».proof.Proof.Gen.ReferenceIdeal.Read
public import Idealize.ShloMosaic.Lib.Pointwise

@[expose] public section

set_option maxRecDepth 16384

noncomputable section

namespace Cert.ReferenceIdeal.Nearest

open Idealize.ShloMosaic
open Cert.ReferenceIdeal Cert.ReferenceIdeal.Gen Cert.ReferenceIdeal.Read Cert.Nearest

/-- The reference's vector of least distances. -/
theorem least_apply (u : FVec Ideal S1024x128 .f32) (l : FVec Ideal S100000x128 .f32) (r : Fin 1024) :
    val_main_v17 (F := Ideal) u l (ix1 r)
      = ⨅ j : Fin 100000, dist (fun k => u (ix2 r k)) (fun k => l (ix2 j k)) := by
  pointwise [val_main_v17, val_main_v16, val_main_v15, val_main_v14, val_main_v13, val_main_v12, val_main_v11, val_main_v10,
     val_main_v9, val_main_v8, val_main_v7, val_main_v6, val_main_v5, val_main_v4, val_main_v3, val_main_v2, val_main_v1,
     val_main_v0, val_main_cst, val_main_cst_0, val_main_cst_1, val_main_cst_2, val_main_cst_3]
  rw [fold_min, ofBits_two]
  rfl

/-- The least element of a vector, as the reference takes it. -/
theorem min_apply (d : FVec Ideal S1024 .f32) (i : S_.Idx) :
    Host.reduce FloatOps.minimumf d (constant (F := Ideal) S_ .f32 0x7F800000#32) reducesTo_S1024_S_d0 h_S_ i
      = ⨅ k : Fin 1024, d (ix1 k) := by
  pointwise
  exact fold_min _

/-- The greatest element of a vector, as the reference takes it. -/
theorem max_apply (d : FVec Ideal S1024 .f32) (i : S_.Idx) :
    Host.reduce FloatOps.maximumf d (constant (F := Ideal) S_ .f32 0xFF800000#32) reducesTo_S1024_S_d0 h_S_ i
      = ⨆ k : Fin 1024, d (ix1 k) := by
  pointwise
  exact fold_max _

/-- A least distance less the least of them. -/
theorem shifted_apply (u : FVec Ideal S1024x128 .f32) (l : FVec Ideal S100000x128 .f32) (i : S1024.Idx) :
    val_main_v20 (F := Ideal) u l i
      = val_main_v17 (F := Ideal) u l i - ⨅ k : Fin 1024, val_main_v17 (F := Ideal) u l (ix1 k) := by
  rw [val_main_v20_apply, val_main_v19_apply, Ideal.subf_def]
  exact congrArg _ (min_apply _ _)

/-- The reference's result: the least distances, rescaled. -/
theorem result_apply (u : FVec Ideal S1024x128 .f32) (l : FVec Ideal S100000x128 .f32) (r : Fin 1024) :
    val_main_v24 (F := Ideal) u l (ix1 r)
      = rescale (fun r => ⨅ j : Fin 100000, dist (fun k => u (ix2 r k)) (fun k => l (ix2 j k))) r := by
  have hm : val_main_v21 (F := Ideal) u l (idx_main_v23 (ix1 r)) = ⨆ k : Fin 1024, val_main_v20 (F := Ideal) u l (ix1 k) :=
    max_apply _ _
  rw [val_main_v24_apply, val_main_v23_apply, val_main_v22_apply, val_main_cst_6_apply, hm]
  simp only [shifted_apply, least_apply]
  rfl

end Cert.ReferenceIdeal.Nearest

end
-- ==== Proof.Blocks.lean ====
/- What the kernel's body computes from the arrays it loads, read at an index: the scaled copy of the first array with its
   column of ones, one step of the running least score, and the values stored at the end. -/
module

public import proofs.«01_k».proof.Defs
public import proofs.«01_k».proof.Proof.Nearest
public import proofs.«01_k».proof.Proof.Gen.KernelIdeal.Skeleton
public import Idealize.ShloMosaic.Lib.Pointwise

@[expose] public section

set_option maxRecDepth 16384

noncomputable section

namespace Cert.KernelIdeal.Blocks

open Idealize.ShloMosaic
open Cert.KernelIdeal Cert.KernelIdeal.Gen Cert.Nearest

/-- The running least score begins at +∞. -/
theorem pay1_apply (r : Fin 1024) : k0_pay1 (F := Ideal) (ix2 r 0) = ⊤ := by
  pointwise [k0_pay1]
  exact ofBits_inf

/-- The scaled copy of the first array: every element times −2. -/
theorem pay2_apply (u : Vec Ideal S1024x128 .f32) (r : Fin 1024) (k : Fin 128) :
    k0_pay2 (F := Ideal) u (ix2 r k) = u (ix2 r k) * ((-2 : ℝ) : EReal) := by
  pointwise [k0_pay2]
  rw [ofBits_neg_two]

/-- The column beside it: ones. -/
theorem pay3_apply (r : Fin 1024) : k0_pay3 (F := Ideal) (ix2 r 0) = 1 := by
  pointwise [k0_pay3]

/-- One step: from a buffer whose first 128 columns are −2 times the rows of `u` and whose last column is ones, the least score
    so far meets the least score against the rows of the block `l`. -/
theorem pay4_apply (u : Vec Ideal S1024x128 .f32) (l : Vec Ideal S25000x128 .f32) (us : Vec Ideal S1024x129 .f32)
    (acc : Vec Ideal S1024x1 .f32)
    (hu : ∀ (r : Fin 1024) (k : Fin 128), us (ix2 r ⟨k.val, by omega⟩) = u (ix2 r k) * ((-2 : ℝ) : EReal))
    (ho : ∀ r : Fin 1024, us (ix2 r 128) = 1) (r : Fin 1024) :
    k0_pay4 (F := Ideal) l us acc (ix2 r 0)
      = min (acc (ix2 r 0)) (⨅ j : Fin 25000, score (fun k => u (ix2 r k)) (fun k => l (ix2 j k))) := by
  pointwise [k0_pay4]
  rw [fold_min]
  congr 1
  refine iInf_congr fun j => ?_
  simp only [hu, ho, one_mul, ofBits_128]
  rw [Finset.sum_const]
  simp only [score, sqLen]
  simp only [Finset.card_univ, Fintype.card_fin, one_smul]

/-- The values stored at the end: the distances from the least scores, rescaled. -/
theorem pay5_apply (u : Vec Ideal S1024x128 .f32) (acc : Vec Ideal S1024x1 .f32) (r : Fin 1024) :
    k0_pay5 (F := Ideal) u acc (ix2 r 0)
      = rescale (fun r => fromScore (fun k => u (ix2 r k)) (acc (ix2 r 0))) r := by
  pointwise [k0_pay5]
  simp only [fold_min, fold_max, ofBits_128]
  let d : Fin 1024 → EReal := fun r => fromScore (fun k => u (ix2 r k)) (acc (ix2 r 0))
  have hmin : (⨅ x : Fin 1024 × Fin 1, d x.1) = ⨅ x, d x := iInf_fst d
  have hmax : (⨆ x : Fin 1024 × Fin 1, d x.1 - ⨅ k, d k) = ⨆ x, d x - ⨅ k, d k := iSup_fst fun x => d x - ⨅ k, d k
  show Ideal.div (d r - ⨅ x : Fin 1024 × Fin 1, d x.1)
    ((⨆ x : Fin 1024 × Fin 1, d x.1 - ⨅ x : Fin 1024 × Fin 1, d x.1) + Ideal.ofBits .f32 0x219392EF#32) = rescale d r
  rw [hmin, hmax]
  rfl

end Cert.KernelIdeal.Blocks

end
-- ==== Proof.Steps.lean ====
module

public import proofs.«01_k».proof.Defs
public import proofs.«01_k».proof.Proof.Gen.KernelIdeal.Frame
public import Idealize.ShloMosaic.Lib.Pipeline.Value
public import Idealize.ShloMosaic.Lib.StableHlo.Run
public import Idealize.ShloMosaic.Lib.Tactic
public import Idealize.ShloMosaic.Lib.Pointwise.Index

@[expose] public section

set_option maxRecDepth 16384

noncomputable section

namespace Cert.KernelIdeal.Steps

open Idealize.ShloMosaic Idealize.ShloMosaic.TcCoe Idealize.SL.Sem
open Cert.KernelIdeal Cert.KernelIdeal.Gen

variable {F : FTy → Type} [FloatOps F]

/-- Offsets of zero, however they are written. -/
theorem hz : (![0, 0] : Fin 2 → Nat) = fun _ => 0 := funext fun a => by fin_cases a <;> rfl

variable (c : Dev nD) (i : grid0.Coords)
  (a1 : Memref sig .tc .vmem S1024x128 .f32) (h1 : a1.IsWhole) (a2 : Memref sig .tc .vmem S25000x128 .f32) (h2 : a2.IsWhole)
  (a3 : Memref sig .tc .vmem S1024x1 .f32) (h3 : a3.IsWhole) (a4 : Memref sig .tc .vmem S1024x1 .f32) (h4 : a4.IsWhole)
  (a5 : Memref sig .tc .vmem S1024x129 .f32) (h5 : a5.IsWhole)
  (x0 : Vec F S1024x128 .f32) (x1 : Vec F S25000x128 .f32) (xs0 : Vec F S1024x1 .f32) (xs1 : Vec F S1024x129 .f32)

/-- What the first point leaves in the second scratch buffer: its two stores, the column of ones over the scaled copy. -/
def scaled (x0 : Vec F S1024x128 .f32) : Vec F S1024x129 .f32 :=
  View.canon [⟨Rect.unit (s := S1024x129) ![0, 128] S1024x1.size inb_S1024x129_S1024x1_0_128, k0_pay3 (F := F)⟩,
    ⟨Rect.unit (s := S1024x129) ![0, 0] S1024x128.size inb_S1024x129_S1024x128_0_0, k0_pay2 x0⟩]

/-- Every index of the second scratch buffer lies in one of the two stores. -/
theorem scaled_cover (x0 : Vec F S1024x128 .f32) (y : S1024x129.Idx) :
    ∃ p ∈ ([⟨Rect.unit (s := S1024x129) ![0, 128] S1024x1.size inb_S1024x129_S1024x1_0_128, k0_pay3 (F := F)⟩,
      ⟨Rect.unit (s := S1024x129) ![0, 0] S1024x128.size inb_S1024x129_S1024x128_0_0, k0_pay2 x0⟩] :
        List (View.Piece (Elt F) S1024x129 .f32)), y ∈ p.1.set :=
  View.cover_of_tiledBy _ ![1024, 1] (by sl_kernel_rfl) y

/-- Its first 128 columns hold the scaled copy. -/
theorem scaled_left (x0 : Vec F S1024x128 .f32) (r : Fin 1024) (k : Fin 128) :
    scaled x0 (ix2 r ⟨k.val, by omega⟩) = k0_pay2 x0 (ix2 r k) := by
  unfold scaled
  rw [View.canon_cons_of_not_mem]
  · have e : (Rect.unit (s := S1024x129) ![0, 0] S1024x128.size inb_S1024x129_S1024x128_0_0).emb (ix2 r k)
        = (ix2 r ⟨k.val, by omega⟩ : S1024x129.Idx) := by
      funext a; apply Fin.ext
      match a with
      | ⟨0, _⟩ => show 0 + 1 * r.val = r.val; omega
      | ⟨1, _⟩ => show 0 + 1 * k.val = k.val; omega
    rw [← e]
    exact View.canon_cons_emb _ _ _ _
  · intro h
    have h1 := (Rect.mem_set_unit (inb := inb_S1024x129_S1024x1_0_128).mp h 1).1
    have h2 : 128 ≤ k.val := h1
    omega

/-- Its last column holds ones. -/
theorem scaled_right (x0 : Vec F S1024x128 .f32) (r : Fin 1024) :
    scaled x0 (ix2 r 128) = k0_pay3 (ix2 r 0) := by
  unfold scaled
  have e : (Rect.unit (s := S1024x129) ![0, 128] S1024x1.size inb_S1024x129_S1024x1_0_128).emb (ix2 r 0)
      = (ix2 r 128 : S1024x129.Idx) := by
    funext a; apply Fin.ext
    match a with
    | ⟨0, _⟩ => show 0 + 1 * r.val = r.val; omega
    | ⟨1, _⟩ => show 128 + 1 * 0 = 128; omega
  rw [← e]
  exact View.canon_cons_emb _ _ _ _

/-- The second scratch buffer after the first point. -/
theorem scratch_A (hc0 : cond0_0 i) (hc1 : ¬cond0_1 i) :
    sout0_A_1 c i a1 h1 a2 h2 a3 h3 a4 h4 a5 h5 hc0 hc1 x0 x1 = scaled x0 := by
  unfold sout0_A_1
  rw [View.read_writes_eq_canon _ _ _ (scover0_A_1 c i a1 h1 a2 h2 a3 h3 a4 h4 a5 h5 hc0 hc1 x0 x1)]
  unfold kernelRun0_A
  dsimp only
  sl_unfold_words
  simp only [View.readAt_eq_ld, h1.read_unread, View.ld_unit_zero (S := S1024x128) hz]
  rfl

/-- The first scratch buffer after the first point: one step from +∞. -/
theorem acc_A (hc0 : cond0_0 i) (hc1 : ¬cond0_1 i) :
    sout0_A_0 c i a1 h1 a2 h2 a3 h3 a4 h4 a5 h5 hc0 hc1 x0 x1 = k0_pay4 x1 (scaled x0) (k0_pay1 (F := F)) := by
  unfold sout0_A_0
  rw [View.read_writes_eq_canon _ _ _ (scover0_A_0 c i a1 h1 a2 h2 a3 h3 a4 h4 a5 h5 hc0 hc1 x0 x1)]
  unfold kernelRun0_A
  dsimp only
  sl_unfold_words
  rw [View.canon_cons_unit_zero (S := S1024x1) hz, View.readCov_unit_zero (S := S1024x1) _ hz]
  simp only [View.readAt_eq_ld, h1.read_unread, h2.read_unread, View.ld_unit_zero (S := S1024x128) hz,
    View.ld_unit_zero (S := S25000x128) hz]
  exact congrArg (fun v => k0_pay4 x1 v (k0_pay1 (F := F))) (by
    rw [View.readCov_eq_canon_ld]
    · exact View.ld_unit_zero (S := S1024x129) hz _ _
    · exact scaled_cover x0)

/-- The first scratch buffer after a middle point: one step from what the point before left. -/
theorem acc_B (hc0 : ¬cond0_0 i) (hc1 : ¬cond0_1 i) :
    sout0_B_0 c i a1 h1 a2 h2 a3 h3 a4 h4 a5 h5 hc0 hc1 x0 x1 xs0 xs1 = k0_pay4 x1 xs1 xs0 := by
  unfold sout0_B_0
  rw [View.read_writes_eq_canon _ _ _ (scover0_B_0 c i a1 h1 a2 h2 a3 h3 a4 h4 a5 h5 hc0 hc1 x0 x1 xs0 xs1)]
  unfold kernelRun0_B
  dsimp only
  sl_unfold_words
  rw [View.canon_cons_unit_zero (S := S1024x1) hz]
  simp only [View.readAt_eq_ld, h2.read_unread, h4.read_unread, h5.read_unread, View.ld_unit_zero (S := S1024x1) hz,
    View.ld_unit_zero (S := S25000x128) hz, View.ld_unit_zero (S := S1024x129) hz]

/-- The first scratch buffer after the last point: the same step. -/
theorem acc_C (hc0 : ¬cond0_0 i) (hc1 : cond0_1 i) :
    sout0_C_0 c i a1 h1 a2 h2 a3 h3 a4 h4 a5 h5 hc0 hc1 x0 x1 xs0 xs1 = k0_pay4 x1 xs1 xs0 := by
  unfold sout0_C_0
  rw [View.read_writes_eq_canon _ _ _ (scover0_C_0 c i a1 h1 a2 h2 a3 h3 a4 h4 a5 h5 hc0 hc1 x0 x1 xs0 xs1)]
  unfold kernelRun0_C
  dsimp only
  sl_unfold_words
  rw [View.canon_cons_unit_zero (S := S1024x1) hz]
  simp only [View.readAt_eq_ld, h2.read_unread, h4.read_unread, h5.read_unread, View.ld_unit_zero (S := S1024x1) hz,
    View.ld_unit_zero (S := S25000x128) hz, View.ld_unit_zero (S := S1024x129) hz]

/-- What the last point stores in the result's block. -/
theorem out_C (hc0 : ¬cond0_0 i) (hc1 : cond0_1 i) :
    out0_C_2 c i a1 h1 a2 h2 a3 h3 a4 h4 a5 h5 hc0 hc1 x0 x1 xs0 xs1 = k0_pay5 x0 (k0_pay4 x1 xs1 xs0) := by
  unfold out0_C_2
  rw [View.read_writes_eq_canon _ _ _ (cover0_C_2 c i a1 h1 a2 h2 a3 h3 a4 h4 a5 h5 hc0 hc1 x0 x1 xs0 xs1)]
  unfold kernelRun0_C
  dsimp only
  sl_unfold_words
  rw [View.canon_cons_unit_zero (S := S1024x1) hz, View.readCov_unit_zero (S := S1024x1) _ hz]
  simp only [View.readAt_eq_ld, h1.read_unread, h2.read_unread, h4.read_unread, h5.read_unread, View.ld_unit_zero (S := S1024x1) hz,
    View.ld_unit_zero (S := S25000x128) hz, View.ld_unit_zero (S := S1024x129) hz, View.ld_unit_zero (S := S1024x128) hz]

end Cert.KernelIdeal.Steps

end
-- ==== Proof.Result.lean ====
/- What the kernel's result array holds when the program ends: the running least score over the four blocks is the least score
   over all rows of the second array, the last point stores the rescaled distances, and the line after the kernel lays the
   column out as a vector. -/
module

public import proofs.«01_k».proof.Defs
public import proofs.«01_k».proof.Proof.Nearest
public import proofs.«01_k».proof.Proof.Blocks
public import proofs.«01_k».proof.Proof.Steps
public import proofs.«01_k».proof.Proof.Gen.KernelIdeal.Frame
public import Idealize.ShloMosaic.Lib.Pipeline.Value
public import Idealize.ShloMosaic.Lib.StableHlo.Run
public import Idealize.ShloMosaic.Lib.Tactic
public import Idealize.ShloMosaic.Lib.Pointwise

@[expose] public section

set_option maxRecDepth 16384

noncomputable section

namespace Cert.KernelIdeal.Result

open Idealize.ShloMosaic Idealize.ShloMosaic.TcCoe Idealize.SL.Sem
open Cert.KernelIdeal Cert.KernelIdeal.Gen Cert.KernelIdeal.Steps Cert.KernelIdeal.Blocks Cert.Nearest

variable (m : (ℓ : Loc nD τ sig) → Buf (Elt Ideal) ℓ) (ρ : Dev nD → PrngReg)

/-- The first array. -/
abbrev arrU (c : Dev nD) : Vec Ideal S1024x128 .f32 := m ((c.tc : Thread nD τ).loc main_arg0)

/-- The second array. -/
abbrev arrL (c : Dev nD) : Vec Ideal S100000x128 .f32 := m ((c.tc : Thread nD τ).loc main_arg1)

/-- A row of the first array. -/
abbrev rowU (c : Dev nD) (r : Fin 1024) : Fin 128 → EReal := fun k => arrU m c (ix2 r k)

/-- A row of the second array. -/
abbrev rowL (c : Dev nD) (j : Fin 100000) : Fin 128 → EReal := fun k => arrL m c (ix2 j k)

/-! ## Where the blocks lie in their arrays -/

/-- The first window always starts at the origin. -/
theorem index_0 : ∀ t : Fin grid0.N, win0_0.index t 0 = 0 ∧ win0_0.index t 1 = 0 := by decide +kernel

/-- The second window's block has the point's number. -/
theorem index_1 : ∀ t : Fin grid0.N, win0_1.index t 0 = t.val ∧ win0_1.index t 1 = 0 := by decide +kernel

/-- The third window always starts at the origin. -/
theorem index_2 : ∀ t : Fin grid0.N, win0_2.index t 0 = 0 ∧ win0_2.index t 1 = 0 := by decide +kernel

/-- An index of the first window's block is the same index of the array. -/
theorem place_0 (t : Fin cfg0.N) (x : S1024x128.Idx) : (((cfg0.win 0).blk t).view.emb x : S1024x128.Idx) = x := by
  obtain ⟨e0, e1⟩ := index_0 t
  refine funext (Fin.forall_fin_two.mpr ⟨Fin.ext ?_, Fin.ext ?_⟩)
  · change win0_0.index t 0 * 1024 + 1 * (x 0).val = (x 0).val
    simp [e0]
  · change win0_0.index t 1 * 128 + 1 * (x 1).val = (x 1).val
    simp [e1]

/-- Row `j` of the second window's block at point `t` is row `25000 t + j` of the array. -/
theorem place_1 (t : Fin cfg0.N) (j : Fin 25000) (k : Fin 128) (i : Fin 100000) (hi : i.val = 25000 * t.val + j.val) :
    (((cfg0.win 1).blk t).view.emb (ix2 j k : S25000x128.Idx) : S100000x128.Idx) = ix2 i k := by
  obtain ⟨e0, e1⟩ := index_1 t
  refine funext (Fin.forall_fin_two.mpr ⟨Fin.ext ?_, Fin.ext ?_⟩)
  · change win0_1.index t 0 * 25000 + 1 * j.val = i.val
    rw [e0, hi, one_mul, Nat.mul_comm]
  · change win0_1.index t 1 * 128 + 1 * k.val = k.val
    simp [e1]

/-- An index of the third window's block is the same index of the array. -/
theorem place_2 (t : Fin cfg0.N) (x : S1024x1.Idx) : (((cfg0.win 2).blk t).view.emb x : S1024x1.Idx) = x := by
  obtain ⟨e0, e1⟩ := index_2 t
  refine funext (Fin.forall_fin_two.mpr ⟨Fin.ext ?_, Fin.ext ?_⟩)
  · change win0_2.index t 0 * 1024 + 1 * (x 0).val = (x 0).val
    simp [e0]
  · change win0_2.index t 1 * 1 + 1 * (x 1).val = (x 1).val
    simp [e1]

/-- Every point finds the whole first array. -/
theorem block_0 (c : Dev nD) (t : Fin cfg0.N) : (iblk m c 0 t : Vec Ideal S1024x128 .f32) = arrU m c :=
  funext fun x => congrArg (arrU m c) (place_0 t x)

/-- Point `t` finds rows `25000 t` to `25000 t + 24999` of the second array. -/
theorem block_1 (c : Dev nD) (t : Fin cfg0.N) (j : Fin 25000) (k : Fin 128) (i : Fin 100000) (hi : i.val = 25000 * t.val + j.val) :
    (iblk m c 1 t : Vec Ideal S25000x128 .f32) (ix2 j k) = arrL m c (ix2 i k) :=
  congrArg (arrL m c) (place_1 t j k i hi)

/-! ## The scratch buffers after each point -/

/-- The second scratch buffer never changes after the first point. -/
theorem scratch_eq (c : Dev nD) : ∀ (n : ℕ) (h : n < cfg0.N), (outsAt0 m c n h).2.2 = scaled (arrU m c)
  | 0, h => by
    rw [outsAt0_A m c ⟨0, h⟩ rfl (by simp)]
    dsimp only
    rw [scratch_A, block_0]
  | n + 1, h => by
    have hN : cfg0.N = 4 := N_0
    have h0 : ¬(⟨n + 1, h⟩ : Fin cfg0.N).val % 4 = 0 := by dsimp only; omega
    by_cases h1 : (⟨n + 1, h⟩ : Fin cfg0.N).val % 4 = 3
    · rw [outsAt0_C m c ⟨n + 1, h⟩ h0 h1]
      exact scratch_eq c n _
    · rw [outsAt0_B m c ⟨n + 1, h⟩ h0 h1]
      exact scratch_eq c n _

/-- The first scratch buffer after the first point. -/
theorem acc_zero (c : Dev nD) (h : 0 < cfg0.N) :
    (outsAt0 m c 0 h).2.1 = k0_pay4 (iblk m c 1 ⟨0, h⟩) (scaled (arrU m c)) (k0_pay1 (F := Ideal)) := by
  rw [outsAt0_A m c ⟨0, h⟩ rfl (by simp)]
  dsimp only
  rw [acc_A, block_0]

/-- The first scratch buffer after a later point. -/
theorem acc_succ (c : Dev nD) (n : ℕ) (h : n + 1 < cfg0.N) :
    (outsAt0 m c (n + 1) h).2.1
      = k0_pay4 (iblk m c 1 ⟨n + 1, h⟩) (scaled (arrU m c)) (outsAt0 m c n (Nat.lt_of_succ_lt h)).2.1 := by
  have hN : cfg0.N = 4 := N_0
  have h0 : ¬(⟨n + 1, h⟩ : Fin cfg0.N).val % 4 = 0 := by dsimp only; omega
  by_cases h1 : (⟨n + 1, h⟩ : Fin cfg0.N).val % 4 = 3
  · rw [outsAt0_C m c ⟨n + 1, h⟩ h0 h1]
    dsimp only
    rw [acc_C]
    show k0_pay4 _ (outsAt0 m c n _).2.2 _ = _
    rw [scratch_eq]
    rfl
  · rw [outsAt0_B m c ⟨n + 1, h⟩ h0 h1]
    dsimp only
    rw [acc_B]
    show k0_pay4 _ (outsAt0 m c n _).2.2 _ = _
    rw [scratch_eq]
    rfl

/-- One step, read at a row: the least score so far meets the scores against the block's rows. -/
theorem step_apply (c : Dev nD) (t : Fin cfg0.N) (acc : Vec Ideal S1024x1 .f32) (r : Fin 1024) :
    k0_pay4 (F := Ideal) (iblk m c 1 t) (scaled (arrU m c)) acc (ix2 r 0)
      = min (acc (ix2 r 0)) (⨅ j : Fin 25000, score (rowU m c r) (fun k => (iblk m c 1 t : Vec Ideal S25000x128 .f32) (ix2 j k))) :=
  pay4_apply (arrU m c) (iblk m c 1 t) (scaled (arrU m c)) acc
    (fun r k => (scaled_left (arrU m c) r k).trans (pay2_apply (arrU m c) r k))
    (fun r => (scaled_right (arrU m c) r).trans (pay3_apply r)) r

/-- What lies below the running least score after point `n`: whatever lies below every score against the rows seen so far. -/
theorem le_acc (c : Dev nD) (r : Fin 1024) (x : EReal) : ∀ (n : ℕ) (h : n < cfg0.N),
    x ≤ (outsAt0 m c n h).2.1 (ix2 r 0) ↔ ∀ i : Fin 100000, i.val < 25000 * (n + 1) → x ≤ score (rowU m c r) (rowL m c i)
  | 0, h => by
    rw [acc_zero, step_apply, pay1_apply, le_min_iff, le_iInf_iff]
    constructor
    · rintro ⟨-, hj⟩ i hi
      have e := hj ⟨i.val, by omega⟩
      simp only [fun k => block_1 m c ⟨0, h⟩ ⟨i.val, by omega⟩ k i (by simp)] at e
      exact e
    · refine fun hi => ⟨le_top, fun j => ?_⟩
      simp only [fun k => block_1 m c ⟨0, h⟩ j k ⟨j.val, by omega⟩ (by simp)]
      exact hi ⟨j.val, by omega⟩ (by dsimp only; omega)
  | n + 1, h => by
    have hN : cfg0.N = 4 := N_0
    rw [acc_succ, step_apply, le_min_iff, le_iInf_iff, le_acc c r x n]
    constructor
    · rintro ⟨hp, hj⟩ i hi
      by_cases hlt : i.val < 25000 * (n + 1)
      · exact hp i hlt
      · have e := hj ⟨i.val - 25000 * (n + 1), by omega⟩
        simp only [fun k => block_1 m c ⟨n + 1, h⟩ ⟨i.val - 25000 * (n + 1), by omega⟩ k i (by dsimp only; omega)] at e
        exact e
    · refine fun hi => ⟨fun i hlt => hi i (by omega), fun j => ?_⟩
      simp only [fun k => block_1 m c ⟨n + 1, h⟩ j k ⟨25000 * (n + 1) + j.val, by omega⟩ rfl]
      exact hi _ (by dsimp only; omega)

/-- After the last point the running least score is the least over all rows. -/
theorem acc_last (c : Dev nD) (r : Fin 1024) (h : 3 < cfg0.N) :
    (outsAt0 m c 3 h).2.1 (ix2 r 0) = ⨅ i : Fin 100000, score (rowU m c r) (rowL m c i) :=
  eq_of_forall_le_iff fun x => by
    rw [le_acc, le_iInf_iff]
    exact ⟨fun hi i => hi i (by omega), fun hi i _ => hi i⟩

/-! ## The result array -/

/-- The last point's number is below the grid's size. -/
theorem three_lt : 3 < cfg0.N := by rw [show cfg0.N = 4 from N_0]; decide

/-- The column the last point stores. -/
def column (c : Dev nD) : Vec Ideal S1024x1 .f32 := (outsAt0 m c 3 three_lt).1

/-- It is the stored value computed from the first array and the running least score after the last point. -/
theorem column_eq (c : Dev nD) : column m c = k0_pay5 (arrU m c) (outsAt0 m c 3 three_lt).2.1 := by
  unfold column
  have e := outsAt0_C m c ⟨3, three_lt⟩ (by decide) (by decide)
  dsimp only at e
  rw [e]
  dsimp only
  rw [out_C, acc_C, block_0]

/-- The column at a row. -/
theorem column_apply (c : Dev nD) (r : Fin 1024) :
    column m c (ix2 r 0)
      = rescale (fun r => fromScore (rowU m c r) (⨅ i : Fin 100000, score (rowU m c r) (rowL m c i))) r := by
  rw [column_eq, pay5_apply]
  simp only [acc_last]

/-- The column as contents of the kernel's result array. -/
abbrev result (c : Dev nD) : Buf (Elt Ideal) ((c : Thread nD τ).loc main_v0) := column m c

/-- What the last point leaves in the third window, it writes back as the column. -/
theorem written_back (c : Dev nD) (t : Fin cfg0.N) (hf : (cfg0.win 2).flush t = true) :
    (dats m 0 c).flushed 2 t = ((cfg0.win 2).blk t).view.read (Elt Ideal) (result m c) := by
  obtain ⟨n, hn⟩ := t
  have hN : cfg0.N = 4 := N_0
  obtain rfl : n = 3 := by
    have := (flush0_2 ⟨n, hn⟩).mp hf
    dsimp only at this
    omega
  have left : (dats m 0 c).flushed 2 ⟨3, hn⟩ = column m c := congrArg ((cfg0.win 2).cut (grid0.coords ⟨3, hn⟩)) (after0_2 m c ⟨3, hn⟩)
  exact left.trans (funext fun x => (congrArg (column m c) (place_2 ⟨3, hn⟩ x)).symm)

/-- The kernel's result array ends holding the column: the last point's block is the whole array. -/
theorem result_array (c : Dev nD) : (dats m 0 c).arrAt 2 cfg0.N = result m c := by
  refine (dats m 0 c).arrAt_eq_of_cover 2 (result m c) (written_back m c) fun x => ?_
  refine ⟨⟨3, three_lt⟩, (flush0_2 _).mpr rfl, ?_⟩
  exact Eq.mp (congrArg (· ∈ _) (place_2 ⟨3, three_lt⟩ x)) (((cfg0.win 2).blk ⟨3, three_lt⟩).view.emb_mem_set x)

/-- The vector the program returns: the column laid out in one axis. -/
def vector (c : Dev nD) : Vec Ideal S1024 .f32 := shapeCast S1024 (column m c) shapeCasts_S1024x1_S1024

/-- It holds the column's elements in order. -/
theorem vector_apply (c : Dev nD) (r : Fin 1024) : vector m c (ix1 r) = column m c (ix2 r 0) := by
  unfold vector
  pointwise

/-- The line after the kernel leaves the vector in the program's result. -/
theorem after_tail (c : Dev nD) :
    Pipeline.afterTail₀ cfgs (dats m) 0 (V0 m) [hostOps1] c main_v1 = vector m c := by
  unfold Pipeline.afterTail₀
  have e : Pipeline.withArrays (cfgs 0).spec c (V0 m c) (fun w => (dats m 0 c).arrAt w (cfgs 0).N) (Proc.devRef .tc main_v0)
      = column m c := (Pipeline.withArrays_arr spec0 launch0.win.arr_inj c (V0 m c) _ 2).trans (result_array m c)
  unfold hostOps1
  simp only [List.flatten_cons, List.flatten_nil, List.append_nil]
  after_results_simp
  rw [e]
  rfl

/-- The program runs to the end; then its result is the vector, and its two arguments are what they were. -/
theorem run : θ_run defs (onTc (τ := τ) (main (F := Ideal))) ⟨m, fun _ => 0, ρ⟩ fun r => ∀ c : Dev nD,
      r.2.mem ((c.tc : Thread nD τ).loc main_v1) = vector m c
      ∧ r.2.mem ((c.tc : Thread nD τ).loc main_arg0) = arrU m c
      ∧ r.2.mem ((c.tc : Thread nD τ).loc main_arg1) = arrL m c := by
  refine (θ_run defs _ _).mono (fun r h c => ?_) (run_main m ρ)
  obtain ⟨arrays, others⟩ := h c
  refine ⟨(others main_v1 (by decide)).trans (after_tail m c), (arrays 0).trans ?_, (arrays 1).trans ?_⟩
  · exact ((dats m 0 c).arrAt_in 0 rfl _).trans ((A_eq m c 0).trans (V_main_arg0 m c))
  · exact ((dats m 0 c).arrAt_in 1 rfl _).trans ((A_eq m c 1).trans (V_main_arg1 m c))

end Cert.KernelIdeal.Result

end
-- ==== Proof.Finite.lean ====
/- The precondition, read at an element: every element of both arrays is a real number. And, on such arrays, the least
   distance the kernel recovers from its least score is the least of the distances. -/
module

public import proofs.«01_k».proof.Pre_finite
public import proofs.«01_k».proof.Proof.Nearest
public import Idealize.ShloMosaic.Lib.Pointwise

@[expose] public section

set_option maxRecDepth 16384

noncomputable section

namespace Cert.Pre_finite

open Idealize.ShloMosaic Cert.Nearest

/-- The shape relations the predicate states. -/
theorem facts : Facts where
  bcast_S_S1024x128 := by decide
  bcast_S_S100000x128 := by decide

/-- An extended real with a size below infinity is a real number. -/
theorem real_of_size (x : EReal) (h : Ideal.cmp .olt (max x (-x)) ⊤ = 1#1) : ∃ a : ℝ, x = a := by
  induction x with
  | bot => simp [Ideal.cmp] at h
  | top => simp [Ideal.cmp] at h
  | coe a => exact ⟨a, rfl⟩

variable [Facts] (u : FVec Ideal S1024x128 .f32) (l : FVec Ideal S100000x128 .f32)

/-- The predicate's first result at an element. -/
theorem first_apply (i : Fin 1024) (k : Fin 128) : (fn u l).1 (ix2 i k) = Ideal.cmp .olt (max (u (ix2 i k)) (-u (ix2 i k))) ⊤ := by
  rw [← ofBits_inf]
  pointwise [fn]
  rfl

/-- The predicate's second result at an element. -/
theorem second_apply (i : Fin 100000) (k : Fin 128) : (fn u l).2 (ix2 i k) = Ideal.cmp .olt (max (l (ix2 i k)) (-l (ix2 i k))) ⊤ := by
  rw [← ofBits_inf]
  pointwise [fn]
  rfl

/-- Where the predicate's first result is all ones, a row of the first array is a row of real numbers. -/
theorem row_first (h : (fn u l).1 = fun _ => 1#1) (i : Fin 1024) : ∃ a : Fin 128 → ℝ, (fun k => u (ix2 i k)) = lift a := by
  choose a ha using fun k => real_of_size (u (ix2 i k)) ((first_apply u l i k).symm.trans (congrFun h (ix2 i k)))
  exact ⟨a, funext ha⟩

/-- Where the predicate's second result is all ones, a row of the second array is a row of real numbers. -/
theorem row_second (h : (fn u l).2 = fun _ => 1#1) (i : Fin 100000) : ∃ a : Fin 128 → ℝ, (fun k => l (ix2 i k)) = lift a := by
  choose a ha using fun k => real_of_size (l (ix2 i k)) ((second_apply u l i k).symm.trans (congrFun h (ix2 i k)))
  exact ⟨a, funext ha⟩

/-- On arrays of real numbers the distance recovered from the least score is the least distance. -/
theorem least_eq (h : (fn u l).1 = (fun _ => 1#1) ∧ (fn u l).2 = fun _ => 1#1) (r : Fin 1024) :
    fromScore (fun k => u (ix2 r k)) (⨅ j : Fin 100000, score (fun k => u (ix2 r k)) (fun k => l (ix2 j k)))
      = ⨅ j : Fin 100000, dist (fun k => u (ix2 r k)) (fun k => l (ix2 j k)) := by
  obtain ⟨a, ha⟩ := row_first u l h.1 r
  rw [ha, fromScore_iInf]
  refine iInf_congr fun j => ?_
  obtain ⟨b, hb⟩ := row_second u l h.2 j
  rw [hb, fromScore_score]

end Cert.Pre_finite

end
-- ==== Proof.lean ====
/- The certificate: every claim of `Cert.Claim`, assembled.

   The frames are the generated ones (the reference is a line of host operations on a machine without semaphores). The value
   claim is put together from the kernel's result (Proof/Result.lean), the reference's result (Proof/Reference.lean) and the
   equation of the two on arrays of real numbers (Proof/Finite.lean, with the mathematics in Proof/Nearest.lean). -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Nearest
public import proofs.«01_k».proof.Proof.Reference
public import proofs.«01_k».proof.Proof.Blocks
public import proofs.«01_k».proof.Proof.Steps
public import proofs.«01_k».proof.Proof.Result
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem

/-- The reference runs, keeps its arguments, and every semaphore counter reads zero at the end: there are none. -/
theorem frame_reference (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal)))
      ⟨m, fun _ => 0, ρ⟩ fun r => (∀ c : Dev ReferenceIdeal.nD,
        r.2.mem ((c.tc : Thread ReferenceIdeal.nD ReferenceIdeal.τ).loc ReferenceIdeal.main_arg0)
            = m ((c.tc : Thread ReferenceIdeal.nD ReferenceIdeal.τ).loc ReferenceIdeal.main_arg0)
        ∧ r.2.mem ((c.tc : Thread ReferenceIdeal.nD ReferenceIdeal.τ).loc ReferenceIdeal.main_arg1)
            = m ((c.tc : Thread ReferenceIdeal.nD ReferenceIdeal.τ).loc ReferenceIdeal.main_arg1))
        ∧ r.2.sem = fun _ => 0 :=
  (θ_run (ReferenceIdeal.defs (F := Ideal)) _ _).mono
    (fun r h => ⟨fun c => (h c).2, sem_eq_zero_of_no_sems (by decide) r.2⟩)
    (ReferenceIdeal.Value.run (F := Ideal) m ρ)

/-- On arrays of real numbers the kernel's vector is the reference's, element by element. -/
theorem vector_eq [Pre_finite.Facts] (m : (ℓ : Loc KernelIdeal.nD KernelIdeal.τ KernelIdeal.sig) → Buf (Elt Ideal) ℓ)
    (h : Pre_KernelIdeal_finite m) (c : Dev KernelIdeal.nD) :
    KernelIdeal.Result.vector m c
      = ReferenceIdeal.Read.val_main_v24 (F := Ideal) (KernelIdeal.Result.arrU m c) (KernelIdeal.Result.arrL m c) := by
  funext i
  obtain ⟨r, rfl⟩ : ∃ r : Fin 1024, i = ix1 r := ⟨i 0, by funext a; match a with | ⟨0, _⟩ => rfl⟩
  rw [KernelIdeal.Result.vector_apply, KernelIdeal.Result.column_apply]
  refine Eq.trans ?_ (ReferenceIdeal.Nearest.result_apply (KernelIdeal.Result.arrU m c) (KernelIdeal.Result.arrL m c) r).symm
  congr 1
  funext r
  exact Pre_finite.least_eq (KernelIdeal.Result.arrU m c) (KernelIdeal.Result.arrL m c) (h c) r

/-- The value claim: on arrays of real numbers, kernel and reference end with the same vector. -/
theorem algebraic [Pre_finite.Facts] : algebraic_KernelIdeal_ReferenceIdeal_pre_finite := by
  intro m g m' g' hp hm
  refine ⟨fun c => KernelIdeal.Result.vector m c, KernelIdeal.Result.run m g, ?_⟩
  refine (θ_run (ReferenceIdeal.defs (F := Ideal)) _ _).mono (fun r h c => ⟨(h c).1.trans ?_, (h c).2⟩)
    (ReferenceIdeal.Value.run (F := Ideal) m' g')
  rw [ReferenceIdeal.Read.val_main_v24_eq, (hm c).1, (hm c).2]
  exact (vector_eq m hp c).symm

/-- Every claim of the certificate. -/
theorem claim : Cert.Claim :=
  ⟨Kernel.Gen.facts, KernelIdeal.Gen.facts, ReferenceIdeal.Gen.facts, Pre_finite.facts,
    fun m g _ => Kernel.Gen.frame m g,
    fun m g _ => KernelIdeal.Gen.frame m g,
    fun m g _ => KernelIdeal.Gen.frame m g,
    fun m g _ => frame_reference m g,
    fun m g _ => frame_reference m g,
    trivial,
    @algebraic Pre_finite.facts⟩

end Cert.Proof

end
